-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)) (v1 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_v0) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = v1 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S3x32x384x384 : Shape := ⟨4, ![3, 32, 384, 384]⟩
abbrev S1x16x384x384 : Shape := ⟨4, ![1, 16, 384, 384]⟩
abbrev S3x8x384x384 : Shape := ⟨4, ![3, 8, 384, 384]⟩
abbrev S4x384x384 : Shape := ⟨3, ![4, 384, 384]⟩
abbrev S_ : Shape := ⟨0, ![]⟩
abbrev S1x384x384 : Shape := ⟨3, ![1, 384, 384]⟩
abbrev S384x384 : Shape := ⟨2, ![384, 384]⟩
abbrev S1x1x384x384 : Shape := ⟨4, ![1, 1, 384, 384]⟩

abbrev nBuf : Table → Nat
  | .hbm => 3
  | .local .tc .vmem => 4
  | .shared => 1
  | _ => 0

abbrev bufTy : (tb : Table) → Fin (nBuf tb) → BufTy
  | .hbm, ⟨0, _⟩ => ⟨S3x32x384x384, .f32⟩
  | .hbm, ⟨1, _⟩ => ⟨S3x32x384x384, .f32⟩
  | .hbm, ⟨2, _⟩ => ⟨S3x8x384x384, .f32⟩
  | .local .tc .vmem, ⟨0, _⟩ => ⟨S1x16x384x384, .f32⟩
  | .local .tc .vmem, ⟨1, _⟩ => ⟨S1x16x384x384, .f32⟩
  | .local .tc .vmem, ⟨2, _⟩ => ⟨S1x16x384x384, .f32⟩
  | .local .tc .vmem, ⟨3, _⟩ => ⟨S1x16x384x384, .f32⟩
  | .shared, ⟨0, _⟩ => ⟨S4x384x384, .f32⟩
  | _, _ => ⟨S3x32x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scs : Ref sig .scScalar := ⟨.hbm, 0, rfl⟩
abbrev main_v1_scs : Ref sig .scScalar := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scScalar := ⟨.shared, 0, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![2], ![false]⟩

def k1_off1 (i : grid1.Coords) (c0_i32 : BitVec 32) : Fin 4 → Nat :=
  let arg0 : BitVec 32 := BitVec.ofNat 32 (i 0).val
  let c12_i32 : BitVec 32 := 12#32
  let v0 : BitVec 32 := Scalar.muli arg0 c12_i32
  let v1 : BitVec 32 := Scalar.addi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c31_i32 : BitVec 32 := 31#32
  let v29 : BitVec 32 := Scalar.muli v28 c31_i32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c7_i32 : BitVec 32 := 7#32
  let c0_i32_13 : BitVec 32 := 0#32
  let v36 : BitVec 1 := Scalar.cmpi .sgt c7_i32 c0_i32_13
  let v37 : BitVec 32 := Scalar.extui v36
  let c0_i32_14 : BitVec 32 := 0#32
  let v38 : BitVec 1 := Scalar.cmpi .slt c7_i32 c0_i32_14
  let v39 : BitVec 32 := Scalar.extui v38
  let v40 : BitVec 32 := Scalar.subi v37 v39
  let v41 : BitVec 1 := Scalar.cmpi .ne v35 v40
  let v42 : BitVec 32 := Scalar.remsi v29 c7_i32
  let c0_i32_15 : BitVec 32 := 0#32
  let v43 : BitVec 1 := Scalar.cmpi .ne v42 c0_i32_15
  let v44 : BitVec 1 := Scalar.andi v41 v43
  let v30 : BitVec 32 := Scalar.divsi v29 c7_i32
  let c1_i32_16 : BitVec 32 := 1#32
  let v45 : BitVec 32 := Scalar.subi v30 c1_i32_16
  let v46 : BitVec 32 := Scalar.select v44 v45 v30
  let c0_i32_20 : BitVec 32 := 0#32
  let c0_i32_21 : BitVec 32 := 0#32
  ![v18.toNat, v46.toNat, 0, 0]
def k1_off2 (i : grid1.Coords) (c0_i32_56 : BitVec 32) : Fin 4 → Nat :=
  let arg0 : BitVec 32 := BitVec.ofNat 32 (i 0).val
  let c12_i32_55 : BitVec 32 := 12#32
  let v106 : BitVec 32 := Scalar.muli arg0 c12_i32_55
  let v107 : BitVec 32 := Scalar.addi v106 c0_i32_56
  let c0_i32_58 : BitVec 32 := 0#32
  let v109 : BitVec 1 := Scalar.cmpi .sgt v107 c0_i32_58
  let v110 : BitVec 32 := Scalar.extui v109
  let c0_i32_59 : BitVec 32 := 0#32
  let v111 : BitVec 1 := Scalar.cmpi .slt v107 c0_i32_59
  let v112 : BitVec 32 := Scalar.extui v111
  let v113 : BitVec 32 := Scalar.subi v110 v112
  let c8_i32_57 : BitVec 32 := 8#32
  let c0_i32_60 : BitVec 32 := 0#32
  let v114 : BitVec 1 := Scalar.cmpi .sgt c8_i32_57 c0_i32_60
  let v115 : BitVec 32 := Scalar.extui v114
  let c0_i32_61 : BitVec 32 := 0#32
  let v116 : BitVec 1 := Scalar.cmpi .slt c8_i32_57 c0_i32_61
  let v117 : BitVec 32 := Scalar.extui v116
  let v118 : BitVec 32 := Scalar.subi v115 v117
  let v119 : BitVec 1 := Scalar.cmpi .ne v113 v118
  let v120 : BitVec 32 := Scalar.remsi v107 c8_i32_57
  let c0_i32_62 : BitVec 32 := 0#32
  let v121 : BitVec 1 := Scalar.cmpi .ne v120 c0_i32_62
  let v122 : BitVec 1 := Scalar.andi v119 v121
  let v108 : BitVec 32 := Scalar.divsi v107 c8_i32_57
  let c1_i32_63 : BitVec 32 := 1#32
  let v123 : BitVec 32 := Scalar.subi v108 c1_i32_63
  let v124 : BitVec 32 := Scalar.select v122 v123 v108
  let c8_i32_64 : BitVec 32 := 8#32
  let c0_i32_65 : BitVec 32 := 0#32
  let v125 : BitVec 1 := Scalar.cmpi .eq c8_i32_64 c0_i32_65
  let c1_i32_66 : BitVec 32 := 1#32
  let v126 : BitVec 32 := Scalar.select v125 c1_i32_66 c8_i32_64
  let v127 : BitVec 32 := Scalar.remsi v107 v126
  let c0_i32_68 : BitVec 32 := 0#32
  let v129 : BitVec 1 := Scalar.cmpi .slt v127 c0_i32_68
  let c0_i32_69 : BitVec 32 := 0#32
  let v130 : BitVec 1 := Scalar.cmpi .slt v126 c0_i32_69
  let v131 : BitVec 1 := Scalar.xori v129 v130
  let c0_i32_67 : BitVec 32 := 0#32
  let v128 : BitVec 1 := Scalar.cmpi .ne v127 c0_i32_67
  let v132 : BitVec 1 := Scalar.andi v131 v128
  let v133 : BitVec 32 := Scalar.addi v127 v126
  let v134 : BitVec 32 := Scalar.select v132 v133 v127
  let c0_i32_79 : BitVec 32 := 0#32
  let c0_i32_80 : BitVec 32 := 0#32
  ![v124.toNat, v134.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S3x32x384x384 : Shape := ⟨4, ![3, 32, 384, 384]⟩
abbrev S8 : Shape := ⟨1, ![8]⟩
abbrev S_ : Shape := ⟨0, ![]⟩
abbrev S8x1 : Shape := ⟨2, ![8, 1]⟩
abbrev S1 : Shape := ⟨1, ![1]⟩
abbrev S1x1 : Shape := ⟨2, ![1, 1]⟩
abbrev S3x8x384x384 : Shape := ⟨4, ![3, 8, 384, 384]⟩

abbrev nBuf : Space → Nat
  | .hbm => 25
  | .vmem => 0
  | .smem => 0
  | _ => 0

abbrev bufTy : (tb : Table) → Fin (tcTables nBuf tb) → BufTy
  | .hbm, ⟨0, _⟩ => ⟨S3x32x384x384, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S8x1, .i32⟩
  | .hbm, ⟨10, _⟩ => ⟨S1, .i32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S1x1, .i32⟩
  | .hbm, ⟨15, _⟩ => ⟨S8x1, .i32⟩
  | .hbm, ⟨16, _⟩ => ⟨S8x1, .i1⟩
  | .hbm, ⟨17, _⟩ => ⟨S8x1, .i1⟩
  | .hbm, ⟨18, _⟩ => ⟨S_, .i1⟩
  | .hbm, ⟨19, _⟩ => ⟨S8, .i1⟩
  | .hbm, ⟨20, _⟩ => ⟨S3x8x384x384, .f32⟩
  | .hbm, ⟨21, _⟩ => ⟨S3x8x384x384, .i1⟩
  | .hbm, ⟨22, _⟩ => ⟨S_, .f32⟩
  | .hbm, ⟨23, _⟩ => ⟨S3x8x384x384, .f32⟩
  | .hbm, ⟨24, _⟩ => ⟨S3x8x384x384, .f32⟩
  | _, _ => ⟨S3x32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The program as the launch theorem sees it: the call table `K`, the pipelines' body table `D`, the resource algebra
  (the handshakes' rounds, the TensorCore pipeline's rounds, the transfers' counters, side by side), the arrays'
  locations, and the spelling of the gather kernel's memrefs.
-/
module

public import Idealize.ShloMosaic.Lib.SparseCore.Quiescent
public import Idealize.ShloMosaic.Lib.Pipeline.Kit
public import Idealize.ShloMosaic.Lib.Tactic
public import Idealize.ShloMosaic.Lib.Ring
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The call signature of the TensorCore pipeline beside the SparseCore kernel's. -/
abbrev ΛP : Labels := Pipeline.Sig Λ₀ (Fin 1) fun p => (pcfgs (F := F) p).Adm
/-- The SparseCore calls. -/
abbrev K : SparseCore.Cfg τ sig (ΛP (F := F)) 1 := sc (F := F)
/-- The kernels' bodies under the pipeline. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the signature: the handshakes' semaphores distinct and outside the kernels' scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore pipeline's rounds. -/
abbrev UP : Type := URounds (GSem nD τ sig) Unit
/-- Both beside the transfers' counters. -/
abbrev UU : Type := UH × (UP × Counters)

local notation "𝕄" => MT nD τ sig (HIx 1) (Elt F) ℕ UU ℕ

/-- The handshakes' part of the algebra. -/
abbrev EH : Emb UH (MT nD τ sig (HIx 1) (Elt F) ℕ UU ℕ) := embL
/-- The pipeline's part of the algebra. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

/-- The frames, the gathered result and the copied result, as arrays of the device. -/
abbrev xLoc (d : Dev nD) : Loc nD τ sig := (SparseCore.T d).loc main_arg0
abbrev oLoc (d : Dev nD) : Loc nD τ sig := (SparseCore.T d).loc main_v1
abbrev yLoc (d : Dev nD) : Loc nD τ sig := (SparseCore.T d).loc main_v0
/-- SparseCore `c`'s shared scratch: the four frame buffers. -/
abbrev shLoc (d : Dev nD) (c : Fin τ.nSC) : Loc nD τ sig := (S d c).loc cc1_scratch0

/-- The grid point of core `c`. -/
abbrev coordsS (c : Fin (grid1.bound 0)) : grid1.Coords := fun | 0 => c | ⟨_ + 1, h⟩ => absurd h (Nat.not_lt.2 (Nat.le_add_left _ _))
/-- The sequencer of core `c`. -/
abbrev SS (d : Dev nD) (c : Fin (grid1.bound 0)) : Thread nD τ := S d (c.castLE hcore1)

/-- The kernel's operands, whole. -/
abbrev xW : Memref sig .scScalar .hbm S3x32x384x384 .f32 := Memref.whole main_arg0_scs
abbrev oW : Memref sig .scScalar .hbm S3x8x384x384 .f32 := Memref.whole main_v1_scs
abbrev shW : Memref sig .scScalar .shared S4x384x384 .f32 := Memref.whole cc1_scratch0

/-- The frame of the result that step `w` of core `c` writes. -/
abbrev outM (c : Fin (grid1.bound 0)) (w : BitVec 32)
    (h : ∀ a, k1_off2 (coordsS c) w a + S1x1x384x384.size a ≤ S3x8x384x384.size a) : Memref sig .scScalar .hbm S384x384 .f32 :=
  ((Memref.whole main_v1_scs : Memref sig .scScalar .hbm S3x8x384x384 .f32).slice (Rect.unit (s := S3x8x384x384) (k1_off2 (coordsS c) w) S1x1x384x384.size h) (fun _ => rfl)).squeeze S384x384 squeezes_S1x1x384x384_S384x384

/-- The frame of the input that step `w` of core `c` reads. -/
abbrev inM (c : Fin (grid1.bound 0)) (w : BitVec 32)
    (h : ∀ a, k1_off1 (coordsS c) w a + S1x1x384x384.size a ≤ S3x32x384x384.size a) : Memref sig .scScalar .hbm S384x384 .f32 :=
  ((Memref.whole main_arg0_scs : Memref sig .scScalar .hbm S3x32x384x384 .f32).slice (Rect.unit (s := S3x32x384x384) (k1_off1 (coordsS c) w) S1x1x384x384.size h) (fun _ => rfl)).squeeze S384x384 squeezes_S1x1x384x384_S384x384

/-- Buffer `j` of the shared scratch. -/
abbrev slotM (j : Nat) (h : ∀ a, (![j, 0, 0] : Fin 3 → Nat) a + S1x384x384.size a ≤ S4x384x384.size a) : Memref sig .scScalar .shared S384x384 .f32 :=
  ((Memref.whole cc1_scratch0 : Memref sig .scScalar .shared S4x384x384 .f32).slice (Rect.unit (s := S4x384x384) ![j, 0, 0] S1x384x384.size h) (fun _ => rfl)).squeeze S384x384 squeezes_S1x384x384_S384x384

/-- DMA semaphore `k` of the pool. -/
abbrev csem (k : Nat) (hk : k < 12 := by decide) : DmaSem sig := ⟨k, hk⟩

end Cert.Proof.Sc

end
-- ==== Proof.Frames.lean ====
/-
  One step of the gather: which frame of the input it reads, which frame of the result it writes, and what it leaves
  there. Step `r` of core `c` handles the pair number `12 c + r`; pair `p` copies frame `(p mod 8) * 31 / 7` of channel
  `p / 8` to frame `p mod 8` of the same channel.
-/
module

public import proofs.«01_k».proof.Proof.Setup
public import Idealize.ShloMosaic.Lib.ValueLayout

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws

variable {F : FTy → Type}
local notation "𝕄" => MT nD τ sig (HIx 1) (Elt F) ℕ UU ℕ

/-- The input frame that the result's frame number `j` shows. -/
def frameOf (j : Fin 8) : Fin 32 := ⟨j.val * 31 / 7, by omega⟩

/-- The gathered frames: frame `j` of the result is frame `j * 31 / 7` of the input. -/
def slowOf {α : Type} (f : S3x32x384x384.Idx → α) : S3x8x384x384.Idx → α :=
  fun i => f (ix4 (n0 := 3) (n1 := 32) (n2 := 384) (n3 := 384) (i 0) (frameOf (i 1)) (i 2) (i 3))

/-- Where step `r` of core `c` writes. -/
theorem off2_eq (c : Fin (grid1.bound 0)) (r : Fin 12) :
    k1_off2 (coordsS c) (BitVec.ofNat 32 r.val) = ![(12 * c.val + r.val) / 8, (12 * c.val + r.val) % 8, 0, 0] := by
  revert c r; decide +kernel

/-- Where it reads. -/
theorem off1_eq (c : Fin (grid1.bound 0)) (r : Fin 12) :
    k1_off1 (coordsS c) (BitVec.ofNat 32 r.val) = ![(12 * c.val + r.val) / 8, (12 * c.val + r.val) % 8 * 31 / 7, 0, 0] := by
  revert c r; decide +kernel

/-- Element `y` of the frame at offsets `off` of an array of frames. -/
theorem frame_emb {n0 n1 : Nat} (off : Fin 4 → Nat)
    (h : ∀ a, off a + S1x1x384x384.size a ≤ (⟨4, ![n0, n1, 384, 384]⟩ : Shape).size a) (y : S384x384.Idx) (a : Fin 4) :
    (((Rect.unit (s := ⟨4, ![n0, n1, 384, 384]⟩) off S1x1x384x384.size h).emb
        (Shape.reshapeEquiv squeezes_S1x1x384x384_S384x384.numel_eq y) : (⟨4, ![n0, n1, 384, 384]⟩ : Shape).Idx) a : Nat)
      = (![off 0, off 1, off 2 + (y 0).val, off 3 + (y 1).val] : Fin 4 → Nat) a := by
  have e : Shape.reshapeEquiv squeezes_S1x1x384x384_S384x384.numel_eq y = ix4 (n0 := 1) (n1 := 1) (n2 := 384) (n3 := 384) 0 0 (y 0) (y 1) :=
    (congrArg _ (by funext a; fin_cases a <;> rfl : y = ix2 (n0 := 384) (n1 := 384) (y 0) (y 1))).trans (reshapeEquiv_ix2_11ab _ _ _)
  rw [e]
  show off a + 1 * _ = _
  rw [Nat.one_mul]
  fin_cases a <;> rfl

/-- Element `y` of the written frame is element `(p / 8, p mod 8, y)` of the result, -/
theorem out_emb (c : Fin (grid1.bound 0)) (r : Fin 12) (y : S384x384.Idx) (a : Fin 4) :
    (((outM c (BitVec.ofNat 32 r.val) (k1_off2_inb _ r)).view.emb y : S3x8x384x384.Idx) a : Nat)
      = (![(12 * c.val + r.val) / 8, (12 * c.val + r.val) % 8, (y 0).val, (y 1).val] : Fin 4 → Nat) a := by
  refine (frame_emb (k1_off2 (coordsS c) (BitVec.ofNat 32 r.val)) (k1_off2_inb _ r) y a).trans ?_
  rw [off2_eq]
  fin_cases a
  · rfl
  · rfl
  · exact Nat.zero_add _
  · exact Nat.zero_add _

/-- and element `y` of the frame read is element `(p / 8, (p mod 8) * 31 / 7, y)` of the input. -/
theorem in_emb (c : Fin (grid1.bound 0)) (r : Fin 12) (y : S384x384.Idx) (a : Fin 4) :
    (((inM c (BitVec.ofNat 32 r.val) (k1_off1_inb _ r)).view.emb y : S3x32x384x384.Idx) a : Nat)
      = (![(12 * c.val + r.val) / 8, (12 * c.val + r.val) % 8 * 31 / 7, (y 0).val, (y 1).val] : Fin 4 → Nat) a := by
  refine (frame_emb (k1_off1 (coordsS c) (BitVec.ofNat 32 r.val)) (k1_off1_inb _ r) y a).trans ?_
  rw [off1_eq]
  fin_cases a
  · rfl
  · rfl
  · exact Nat.zero_add _
  · exact Nat.zero_add _

/-- The gathered frames, read where step `r` writes, are the input, read where it reads. -/
theorem slow_out (c : Fin (grid1.bound 0)) (r : Fin 12) (f : S3x32x384x384.Idx → Elt F .f32) (y : S384x384.Idx) :
    slowOf f ((outM c (BitVec.ofNat 32 r.val) (k1_off2_inb _ r)).view.emb y)
      = f ((inM c (BitVec.ofNat 32 r.val) (k1_off1_inb _ r)).view.emb y) := by
  unfold slowOf
  refine congrArg f (funext fun a => Fin.ext ?_)
  rw [in_emb]
  have h := out_emb c r y
  fin_cases a
  · exact h 0
  · exact congrArg (fun n : Nat => n * 31 / 7) (h 1)
  · exact h 2
  · exact h 3

/-- A copy through a buffer: what is read back of a whole write of what was read from a whole write. -/
theorem read_carried {κ₁ κ₂ κ₃ : Kind} {sp₁ sp₂ sp₃ : Space} {s : Shape} {e : EltTy} (vo : View sig κ₁ sp₁ s e) (vs : View sig κ₂ sp₂ s e)
    (vi : View sig κ₃ sp₃ s e) (fo : vo.ty.Contents (Elt F)) (g : vs.ty.Contents (Elt F)) (f : vi.ty.Contents (Elt F))
    (L : List (View.Piece (Elt F) s e)) (y : s.Idx) :
    HEq (vo.writes (Elt F) fo [⟨Rect.whole s, ReadAs.same.apply (vs.read (Elt F)
      (vs.writes (Elt F) g (⟨Rect.whole s, ReadAs.same.apply (vi.read (Elt F) f)⟩ :: L)))⟩] (vo.emb y)) (f (vi.emb y)) := by
  have e1 := View.read_writes_cons_emb vo fo (Rect.whole s) (ReadAs.same.apply (vs.read (Elt F)
      (vs.writes (Elt F) g (⟨Rect.whole s, ReadAs.same.apply (vi.read (Elt F) f)⟩ :: L)))) [] y
  have e2 := View.read_writes_cons_emb vs g (Rect.whole s) (ReadAs.same.apply (vi.read (Elt F) f)) L y
  rw [Rect.emb_whole_apply] at e1 e2
  have h := e1.trans e2
  rw [View.read_apply] at h
  exact (cast_heq _ _).symm.trans ((heq_of_eq h).trans (cast_heq _ _))

section
variable (d : Dev nD) (c : Fin (grid1.bound 0))

/-- The frame that step `w` writes, at contents `f` of the whole result. -/
abbrev outP (w : BitVec 32) (h : ∀ a, k1_off2 (coordsS c) w a + S1x1x384x384.size a ≤ S3x8x384x384.size a)
    (f : Buf (Elt F) (oW.view.loc (SS d c))) : sProp 𝕄 :=
  (outM c w h).view.loc (SS d c) ↦[(outM c w h).view.set]{fullShare} f

/-- Buffer `j` of the shared scratch, at contents `f` of the whole scratch. -/
abbrev slotP (j : Nat) (h : ∀ a, (![j, 0, 0] : Fin 3 → Nat) a + S1x384x384.size a ≤ S4x384x384.size a)
    (f : Buf (Elt F) (shW.view.loc (SS d c))) : sProp 𝕄 :=
  (slotM j h).view.loc (SS d c) ↦[(slotM j h).view.set]{fullShare} f

/-- Read token `k` of share `q` of the input. -/
abbrev xTok (q : PosShare TreeShare) (k : Nat) (f : Buf (Elt F) (xW.view.loc (SS d c))) : sProp 𝕄 :=
  (Memref.whole main_arg0_scs : Memref sig .scScalar .hbm S3x32x384x384 .f32).view.loc (SS d c) ↦{Transfers.shareTokN q k} f

/-- What one step leaves: the input's frame, copied to a scratch buffer and from there to the result, is the gathered
    frame, whatever the scratch buffer's earlier copies and the result's earlier contents. -/
theorem out_landed (r : Fin 12) (j : Nat) (hj : ∀ a, (![j, 0, 0] : Fin 3 → Nat) a + S1x384x384.size a ≤ S4x384x384.size a)
    (f : Buf (Elt F) (xW.view.loc (SS d c))) (fo : Buf (Elt F) (oW.view.loc (SS d c)))
    (g : Buf (Elt F) (shW.view.loc (SS d c))) (L : List (View.Piece (Elt F) S384x384 .f32)) :
    outP d c (BitVec.ofNat 32 r.val) (k1_off2_inb _ r)
        ((outM c (BitVec.ofNat 32 r.val) (k1_off2_inb _ r)).view.writes (Elt F) fo
          [⟨Rect.whole S384x384, ReadAs.same.apply (View.read (Elt F) (slotM j hj).view
            ((slotM j hj).view.writes (Elt F) g (⟨Rect.whole S384x384, ReadAs.same.apply (View.read (Elt F) (inM c (BitVec.ofNat 32 r.val) (k1_off1_inb _ r)).view f)⟩ :: L)))⟩])
      = outP d c (BitVec.ofNat 32 r.val) (k1_off2_inb _ r) (slowOf f) := by
  refine pointsTo_congr fun i hi => ?_
  obtain ⟨y, -, rfl⟩ := Finset.mem_map.mp hi
  refine Eq.trans (eq_of_heq (read_carried (outM c (BitVec.ofNat 32 r.val) (k1_off2_inb _ r)).view (slotM j hj).view
    (inM c (BitVec.ofNat 32 r.val) (k1_off1_inb _ r)).view fo g f L y)) ?_
  exact (slow_out c r f y).symm

end

end Cert.Proof.Sc

end
-- ==== Proof.Pieces.lean ====
/-
  The arrays in the pieces the gather works on: the result as the twelve frames of each core, a core's scratch as its four
  buffers, a core's share of the input as read tokens, and a core's semaphores as the eight the kernel names and the rest.
-/
module

public import proofs.«01_k».proof.Proof.Frames

@[expose] public section

noncomputable section

namespace Cert.Proof.Sc

open Cert.KernelIdeal Cert.KernelIdeal.Gen

open Idealize.ShloMosaic Idealize.ShloMosaic.ValueIdx
open Idealize.ShloMosaic.SparseCore (S V T)
open Idealize.ShloMosaic.SparseCore.Cfg (HIx Pay ownRefs mem_ownRefs ownBufs ownCells mem_ownCells ownSems0)
open Idealize.SL Idealize.SL.RA Idealize.SL.BI
open scoped Idealize.SL.BI
open Idealize.SL.BI.BIBase Idealize.SL.BI.Laws Idealize.SL.ProofMode

variable {F : FTy → Type}
local notation "𝕄" => MT nD τ sig (HIx 1) (Elt F) ℕ UU ℕ

/-! ## The result -/

/-- The frame that step `r` of core `c` writes, as a set of the result's elements. -/
def oSet (c : Fin (grid1.bound 0)) (r : Fin 12) : Finset S3x8x384x384.Idx :=
  (outM c (BitVec.ofNat 32 r.val) (k1_off2_inb _ r)).view.set

/-- It is the elements whose channel and frame number are those of the pair `12 c + r`. -/
theorem mem_oSet (c : Fin (grid1.bound 0)) (r : Fin 12) (i : S3x8x384x384.Idx) :
    i ∈ oSet c r ↔ (i 0).val = (12 * c.val + r.val) / 8 ∧ (i 1).val = (12 * c.val + r.val) % 8 := by
  constructor
  · intro hi
    obtain ⟨y, -, rfl⟩ := Finset.mem_map.mp hi
    exact ⟨out_emb c r y 0, out_emb c r y 1⟩
  · rintro ⟨h0, h1⟩
    refine Finset.mem_map.mpr ⟨ix2 (n0 := 384) (n1 := 384) (i 2) (i 3), Finset.mem_univ _, funext fun a => Fin.ext ?_⟩
    refine (out_emb c r _ a).trans ?_
    fin_cases a
    · exact h0.symm
    · exact h1.symm
    · rfl
    · rfl

/-- A core's twelve frames. -/
def coreSet (c : Fin (grid1.bound 0)) : Finset S3x8x384x384.Idx := Finset.univ.biUnion (oSet c)

theorem oSet_disjoint (c : Fin (grid1.bound 0)) (r r' : Fin 12) (h : r ≠ r') : Disjoint (oSet c r) (oSet c r') := by
  rw [Finset.disjoint_left]
  intro i hi hi'
  have h1 := (mem_oSet c r i).mp hi
  have h2 := (mem_oSet c r' i).mp hi'
  exact h (Fin.ext (by omega))

theorem mem_coreSet (c : Fin (grid1.bound 0)) (i : S3x8x384x384.Idx) : i ∈ coreSet c ↔ ∃ r, i ∈ oSet c r := by
  unfold coreSet; simp only [Finset.mem_biUnion, Finset.mem_univ, true_and]

theorem coreSet_disjoint (c c' : Fin (grid1.bound 0)) (h : c ≠ c') : Disjoint (coreSet c) (coreSet c') := by
  rw [Finset.disjoint_left]
  intro i hi hi'
  obtain ⟨r, hr⟩ := (mem_coreSet c i).mp hi
  obtain ⟨r', hr'⟩ := (mem_coreSet c' i).mp hi'
  have h1 := (mem_oSet c r i).mp hr
  have h2 := (mem_oSet c' r' i).mp hr'
  exact h (Fin.ext (by omega))

theorem coreSet_cover : Finset.univ.biUnion coreSet = Finset.univ := by
  refine Finset.eq_univ_iff_forall.mpr fun i => Finset.mem_biUnion.mpr ?_
  have h0 : (i 0).val < 3 := (i 0).isLt
  have h1 : (i 1).val < 8 := (i 1).isLt
  refine ⟨⟨(8 * (i 0).val + (i 1).val) / 12, show _ < 2 by omega⟩, Finset.mem_univ _, (mem_coreSet _ i).mpr ⟨⟨(8 * (i 0).val + (i 1).val) % 12, by omega⟩, (mem_oSet _ _ i).mpr ?_⟩⟩
  dsimp only
  omega

/-- The whole result is the two cores' parts. -/
theorem result_cores (d : Dev nD) (f : Buf (Elt F) (oLoc d)) :
    (oLoc d ↦{fullShare} f : sProp 𝕄) = bigSep Finset.univ fun c : Fin (grid1.bound 0) => (oLoc d ↦[coreSet c]{fullShare} f : sProp 𝕄) := by
  refine Eq.trans ?_ (pointsTo_biUnion (ℓ := oLoc d) Finset.univ coreSet fun c _ c' _ h => coreSet_disjoint c c' h)
  rw [coreSet_cover]

/-- Twelve of a kind, one by one. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  iterate 11 rw [SparseCore.bigSep_insert' (by decide)]
  rw [bigSep_singleton]

/-- A core's part of the result is its twelve frames. -/
theorem core_frames (d : Dev nD) (c : Fin (grid1.bound 0)) (f : Buf (Elt F) (oLoc d)) :
    (oLoc d ↦[coreSet c]{fullShare} f : sProp 𝕄)
      = iprop(outP d c 0#32 (k1_off2_inb _ 0) f ∗ outP d c 1#32 (k1_off2_inb _ 1) f
        ∗ outP d c 2#32 (k1_off2_inb _ 2) f ∗ outP d c 3#32 (k1_off2_inb _ 3) f
        ∗ outP d c 4#32 (k1_off2_inb _ 4) f ∗ outP d c 5#32 (k1_off2_inb _ 5) f
        ∗ outP d c 6#32 (k1_off2_inb _ 6) f ∗ outP d c 7#32 (k1_off2_inb _ 7) f
        ∗ outP d c 8#32 (k1_off2_inb _ 8) f ∗ outP d c 9#32 (k1_off2_inb _ 9) f
        ∗ outP d c 10#32 (k1_off2_inb _ 10) f ∗ outP d c 11#32 (k1_off2_inb _ 11) f) := by
  unfold coreSet
  refine (pointsTo_biUnion (ℓ := oLoc d) Finset.univ (oSet c) fun r _ r' _ h => oSet_disjoint c r r' h).trans ?_
  rw [bigSep_twelve]
  rfl

/-! ## The scratch -/

theorem slot_inb (j : Fin 4) : ∀ a, (![j.val, 0, 0] : Fin 3 → Nat) a + S1x384x384.size a ≤ S4x384x384.size a := by
  revert j; decide

/-- Buffer `j` of the scratch, as a set of its elements. -/
def slotSet (j : Fin 4) : Finset S4x384x384.Idx := (Rect.unit (s := S4x384x384) ![j.val, 0, 0] S1x384x384.size (slot_inb j)).set

theorem slotSet_eq (j : Fin 4) : (slotM j.val (slot_inb j)).view.set = slotSet j := by
  simp only [slotM, Memref.view_squeeze, View.set_reshape]; exact View.set_slice_whole _ _

theorem slots_disjoint (j j' : Fin 4) (h : j ≠ j') : Disjoint (slotSet j) (slotSet j') :=
  Ring.lead_disjoint (s := S4x384x384) (0 : Fin 3) 1 (fun j : Fin 4 => (![j.val, 0, 0] : Fin 3 → Nat)) S1x384x384.size slot_inb (fun j => by simp) rfl j j' h

theorem slots_cover : Finset.univ.biUnion slotSet = Finset.univ :=
  Ring.lead_cover (s := S4x384x384) (0 : Fin 3) 1 (fun j : Fin 4 => (![j.val, 0, 0] : Fin 3 → Nat)) S1x384x384.size slot_inb (fun j => by simp)
    (fun j a ha => by fin_cases a <;> first | exact absurd rfl ha | rfl) rfl (fun a ha => by fin_cases a <;> first | exact absurd rfl ha | rfl) rfl

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

theorem slotP_eq (d : Dev nD) (c : Fin (grid1.bound 0)) (j : Fin 4) (f) :
    slotP (F := F) d c j.val (slot_inb j) f = (shLoc d (c.castLE hcore1) ↦[slotSet j]{fullShare} f : sProp 𝕄) := by
  unfold slotP; rw [slotSet_eq]

/-- A core's scratch is its four buffers at the same contents; -/
theorem slots_split (d : Dev nD) (c : Fin (grid1.bound 0)) (f : Buf (Elt F) (shLoc d (c.castLE hcore1))) :
    (shLoc d (c.castLE hcore1) ↦{fullShare} f : sProp 𝕄)
      = iprop(slotP d c 0 inb_S4x384x384_S1x384x384_0_0_0 f ∗ slotP d c 1 inb_S4x384x384_S1x384x384_1_0_0 f
        ∗ slotP d c 2 inb_S4x384x384_S1x384x384_2_0_0 f ∗ slotP d c 3 inb_S4x384x384_S1x384x384_3_0_0 f) := by
  rw [← slots_cover]
  refine (pointsTo_biUnion (ℓ := shLoc d (c.castLE hcore1)) Finset.univ slotSet fun j _ j' _ h => slots_disjoint j j' h).trans ?_
  rw [bigSep_four, ← slotP_eq, ← slotP_eq, ← slotP_eq, ← slotP_eq]
  rfl

/-- and four buffers at any contents each are the scratch at some contents. -/
theorem slots_join (d : Dev nD) (c : Fin (grid1.bound 0)) :
    (iprop((∃ g, slotP d c 0 inb_S4x384x384_S1x384x384_0_0_0 g) ∗ (∃ g, slotP d c 1 inb_S4x384x384_S1x384x384_1_0_0 g)
        ∗ (∃ g, slotP d c 2 inb_S4x384x384_S1x384x384_2_0_0 g) ∗ (∃ g, slotP d c 3 inb_S4x384x384_S1x384x384_3_0_0 g)) : sProp 𝕄)
      ⊢ iprop(∃ f : Buf (Elt F) (shLoc d (c.castLE hcore1)), shLoc d (c.castLE hcore1) ↦{fullShare} f) := by
  iintro ⟨⟨%g0, H0⟩, ⟨%g1, H1⟩, ⟨%g2, H2⟩, ⟨%g3, H3⟩⟩
  ihave H := (pointsTo_biUnion_join (ℓ := shLoc d (c.castLE hcore1)) (q := fullShare) Finset.univ slotSet
    (fun j => match j with | 0 => g0 | 1 => g1 | 2 => g2 | 3 => g3) g0 fun j _ j' _ h => slots_disjoint j j' h) $$ [H0 H1 H2 H3]
  · rw [bigSep_four]
    isplitl [H0]; · iapply (Entails.of_eq (slotP_eq d c 0 g0)); iexact H0
    isplitl [H1]; · iapply (Entails.of_eq (slotP_eq d c 1 g1)); iexact H1
    isplitl [H2]; · iapply (Entails.of_eq (slotP_eq d c 2 g2)); iexact H2
    iapply (Entails.of_eq (slotP_eq d c 3 g3)); iexact H3
  icases H with ⟨%g, -, Hg⟩
  iexists g
  rw [slots_cover]
  iexact Hg

/-! ## The input -/

/-- The share of the input that core `c` reads. -/
abbrev coreShare (c : Fin (grid1.bound 0)) : PosShare TreeShare := Transfers.shareTokN fullShare c.val

/-- The input whole is a share left behind and the two cores' shares. -/
theorem input_cores (d : Dev nD) (f : Buf (Elt F) (xLoc d)) :
    (xLoc d ↦{fullShare} f : sProp 𝕄)
      = iprop((xLoc d ↦{Transfers.shareDrop fullShare 2} f) ∗ bigSep Finset.univ fun c : Fin (grid1.bound 0) => (xLoc d ↦{coreShare c} f : sProp 𝕄)) := by
  have h := Transfers.pointsTo_toks (U := UU) (Name := ℕ) (Lvl := ℕ) (Ix := HIx 1) (ℓ := xLoc d) (S := Finset.univ) (f := f) fullShare 2
  exact BI.equiv_iff.mp ⟨h.1, h.2⟩

/-- What a core keeps of its share beside the four read tokens its kernel uses. -/
abbrev xRest (d : Dev nD) (c : Fin (grid1.bound 0)) (f : Buf (Elt F) (xLoc d)) : sProp 𝕄 :=
  iprop((xLoc d ↦{Transfers.shareDrop (coreShare c) 8} f) ∗ bigSep ({0, 1, 2, 3} : Finset ℕ) fun i => (xLoc d ↦{Transfers.shareTokN (coreShare c) i} f : sProp 𝕄))

/-- The first of six taken past the next four. -/
theorem sep_after_four (A B C E G R : sProp 𝕄) : iprop(A ∗ B ∗ C ∗ E ∗ G ∗ R) = iprop(B ∗ C ∗ E ∗ G ∗ A ∗ R) := by
  have h₁ : iprop(A ∗ B ∗ C ∗ E ∗ G ∗ R) ⊢ iprop(B ∗ C ∗ E ∗ G ∗ A ∗ R) := by
    iintro ⟨HA, HB, HC, HE, HG, HR⟩
    iframe HB HC HE HG HA HR
  have h₂ : iprop(B ∗ C ∗ E ∗ G ∗ A ∗ R) ⊢ iprop(A ∗ B ∗ C ∗ E ∗ G ∗ R) := by
    iintro ⟨HB, HC, HE, HG, HA, HR⟩
    iframe HA HB HC HE HG HR
  exact BI.equiv_iff.mp ⟨h₁, h₂⟩

/-- A core's share of the input is the four tokens and the rest. -/
theorem input_toks (d : Dev nD) (c : Fin (grid1.bound 0)) (f : Buf (Elt F) (xLoc d)) :
    (xLoc d ↦{coreShare c} f : sProp 𝕄)
      = iprop(xTok d c (coreShare c) 4 f ∗ xTok d c (coreShare c) 5 f ∗ xTok d c (coreShare c) 6 f ∗ xTok d c (coreShare c) 7 f ∗ xRest d c f) := by
  have h := Transfers.pointsTo_toks_range (U := UU) (Name := ℕ) (Lvl := ℕ) (Ix := HIx 1) (ℓ := xLoc d) (S := Finset.univ) (f := f) (coreShare c) 8
  rw [BI.equiv_iff.mp ⟨h.1, h.2⟩, show Finset.range 8 = insert 4 (insert 5 (insert 6 (insert 7 {0, 1, 2, 3}))) by decide]
  iterate 4 rw [SparseCore.bigSep_insert' (by decide)]
  exact sep_after_four _ _ _ _ _ _

/-! ## The semaphores -/

/-- The semaphores of core `c` that the kernel names: number `k + 4` of its pool. -/
abbrev gcell (d : Dev nD) (c : Fin τ.nSC) (k : Fin 8) : GSem nD τ sig := (S d c, .dma (csem (k.val + 4) (by omega)))

theorem gcell_mem (d : Dev nD) (c : Fin τ.nSC) (k : Fin 8) : gcell d c k ∈ ownCells (S d c) :=
  mem_ownCells.mpr ⟨rfl, (show ∀ k : Fin 8, (SemLoc.dma (csem (k.val + 4) (by omega)) : SemLoc sig).isScoped .scScalar = true by decide) k⟩

/-- The eight at zero. -/
abbrev cells8 (d : Dev nD) (c : Fin τ.nSC) : sProp 𝕄 :=
  iprop(semVal (S d c, SemLoc.dma (csem 4)) 0 ∗ semVal (S d c, SemLoc.dma (csem 5)) 0
    ∗ semVal (S d c, SemLoc.dma (csem 6)) 0 ∗ semVal (S d c, SemLoc.dma (csem 7)) 0
    ∗ semVal (S d c, SemLoc.dma (csem 8)) 0 ∗ semVal (S d c, SemLoc.dma (csem 9)) 0
    ∗ semVal (S d c, SemLoc.dma (csem 10)) 0 ∗ semVal (S d c, SemLoc.dma (csem 11)) 0)

/-- The sequencer's semaphores at zero: the eight and the rest. -/
theorem ownSems0_S (d : Dev nD) (c : Fin τ.nSC) :
    (ownSems0 (S d c) : sProp 𝕄)
      = iprop(cells8 d c ∗ bigSep ((ownCells (S d c)) \ Finset.univ.image (gcell d c)) fun g => semVal g 0) := by
  unfold SparseCore.Cfg.ownSems0
  rw [SparseCore.bigSep_sdiff_split' (t := Finset.univ.image (gcell d c)) (Finset.image_subset_iff.mpr fun k _ => gcell_mem d c k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 8)) = {0, 1, 2, 3, 4, 5, 6, 7} by decide]
  iterate 7 rw [SparseCore.bigSep_insert' (by decide)]
  rw [bigSep_singleton]
  rfl

/-- The sequencer's buffers: the shared scratch at some contents, and the rest. -/
theorem ownBufs_S (d : Dev nD) (c : Fin τ.nSC) :
    (ownBufs (S d c) : sProp 𝕄)
      = iprop((∃ f, shLoc d c ↦{fullShare} f)
          ∗ bigSep ((ownRefs (τ := τ) (.scScalar c)).erase ((Proc.scScalar c).devRef cc1_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc1_scratch0)).mpr rfl)

end Cert.Proof.Sc

end
-- ==== Proof.Body.lean ====
/-
  The gather kernel's run on one core, with the values it leaves.
-/
module

public import proofs.«01_k».proof.Proof.Frames

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F]

variable (d : Dev nD) (c : Fin (grid1.bound 0))

/-- What one core's sequencer does, over any float values: from read tokens of the frames `f`, its twelve frames of the
    result, the four buffers of its scratch and its eight semaphores at zero, the kernel runs to its end; the frames are
    unchanged, each of the twelve frames holds the gathered frame, and every semaphore is at zero again. -/
theorem gather_run (q : PosShare TreeShare) (O : CellTallies nD τ sig (HIx 1)) (W : Waits sig (HIx 1))
    (f : Buf (Elt F) (xW.view.loc (SS d c))) (fo : Buf (Elt F) (oW.view.loc (SS d c)))
    (g0 g1 g2 g3 : Buf (Elt F) (shW.view.loc (SS d c))) :
    (iprop(Transfers.MayWaits (SS d c) (none : HIx 1) O
        ∗ xTok d c q 4 f ∗ xTok d c q 5 f ∗ xTok d c q 6 f ∗ xTok d c q 7 f
        ∗ outP d c 0#32 (k1_off2_inb _ 0) fo ∗ outP d c 1#32 (k1_off2_inb _ 1) fo
        ∗ outP d c 2#32 (k1_off2_inb _ 2) fo ∗ outP d c 3#32 (k1_off2_inb _ 3) fo
        ∗ outP d c 4#32 (k1_off2_inb _ 4) fo ∗ outP d c 5#32 (k1_off2_inb _ 5) fo
        ∗ outP d c 6#32 (k1_off2_inb _ 6) fo ∗ outP d c 7#32 (k1_off2_inb _ 7) fo
        ∗ outP d c 8#32 (k1_off2_inb _ 8) fo ∗ outP d c 9#32 (k1_off2_inb _ 9) fo
        ∗ outP d c 10#32 (k1_off2_inb _ 10) fo ∗ outP d c 11#32 (k1_off2_inb _ 11) fo
        ∗ slotP d c 0 inb_S4x384x384_S1x384x384_0_0_0 g0 ∗ slotP d c 1 inb_S4x384x384_S1x384x384_1_0_0 g1
        ∗ slotP d c 2 inb_S4x384x384_S1x384x384_2_0_0 g2 ∗ slotP d c 3 inb_S4x384x384_S1x384x384_3_0_0 g3
        ∗ semVal (SS d c, SemLoc.dma (csem 4)) 0 ∗ semVal (SS d c, SemLoc.dma (csem 5)) 0
        ∗ semVal (SS d c, SemLoc.dma (csem 6)) 0 ∗ semVal (SS d c, SemLoc.dma (csem 7)) 0
        ∗ semVal (SS d c, SemLoc.dma (csem 8)) 0 ∗ semVal (SS d c, SemLoc.dma (csem 9)) 0
        ∗ semVal (SS d c, SemLoc.dma (csem 10)) 0 ∗ semVal (SS d c, SemLoc.dma (csem 11)) 0
        ∗ owes (SS d c) O W) : sProp 𝕄)
      ⊢ wp frame (wpE (defs₀ (F := F)) 𝒱₀ (SS d c) none) Set.univ
          (cc1_gather (coordsS c) (Memref.whole main_arg0_scs) (Memref.isWhole_whole _) (Memref.whole main_v1_scs) (Memref.isWhole_whole _)
            (Memref.whole cc1_scratch0) (Memref.isWhole_whole _) cc1_scratch1 cc1_scratch2 cc1_scratch3 cc1_scratch4
            cc1_scratch5 cc1_scratch6 cc1_scratch7 cc1_scratch8)
          fun _ => iprop(xTok d c q 4 f ∗ xTok d c q 5 f ∗ xTok d c q 6 f ∗ xTok d c q 7 f
            ∗ outP d c 0#32 (k1_off2_inb _ 0) (slowOf f) ∗ outP d c 1#32 (k1_off2_inb _ 1) (slowOf f)
            ∗ outP d c 2#32 (k1_off2_inb _ 2) (slowOf f) ∗ outP d c 3#32 (k1_off2_inb _ 3) (slowOf f)
            ∗ outP d c 4#32 (k1_off2_inb _ 4) (slowOf f) ∗ outP d c 5#32 (k1_off2_inb _ 5) (slowOf f)
            ∗ outP d c 6#32 (k1_off2_inb _ 6) (slowOf f) ∗ outP d c 7#32 (k1_off2_inb _ 7) (slowOf f)
            ∗ outP d c 8#32 (k1_off2_inb _ 8) (slowOf f) ∗ outP d c 9#32 (k1_off2_inb _ 9) (slowOf f)
            ∗ outP d c 10#32 (k1_off2_inb _ 10) (slowOf f) ∗ outP d c 11#32 (k1_off2_inb _ 11) (slowOf f)
            ∗ (∃ g, slotP d c 0 inb_S4x384x384_S1x384x384_0_0_0 g)
            ∗ (∃ g, slotP d c 1 inb_S4x384x384_S1x384x384_1_0_0 g)
            ∗ (∃ g, slotP d c 2 inb_S4x384x384_S1x384x384_2_0_0 g)
            ∗ (∃ g, slotP d c 3 inb_S4x384x384_S1x384x384_3_0_0 g)
            ∗ semVal (SS d c, SemLoc.dma (csem 4)) 0 ∗ semVal (SS d c, SemLoc.dma (csem 5)) 0
            ∗ semVal (SS d c, SemLoc.dma (csem 6)) 0 ∗ semVal (SS d c, SemLoc.dma (csem 7)) 0
            ∗ semVal (SS d c, SemLoc.dma (csem 8)) 0 ∗ semVal (SS d c, SemLoc.dma (csem 9)) 0
            ∗ semVal (SS d c, SemLoc.dma (csem 10)) 0 ∗ semVal (SS d c, SemLoc.dma (csem 11)) 0
            ∗ ∃ W', owes (SS d c) O W') := by
  iintro ⟨#Hmw, Hx4, Hx5, Hx6, Hx7, Ho0, Ho1, Ho2, Ho3, Ho4, Ho5, Ho6, Ho7, Ho8, Ho9, Ho10, Ho11, Hs0, Hs1, Hs2, Hs3, Hc4, Hc5, Hc6, Hc7, Hc8, Hc9, Hc10, Hc11, HO⟩
  sl_unfold [cc1_gather]
  sl_exec_parts (disch := exact View.amount_pos _ _ (show 0 < S384x384.numel by decide))
  sl_step
  have hl := fun r j hj g L => Entails.of_eq (out_landed (F := F) d c r j hj f fo g L)
  iframe Hx4 Hx5 Hx6 Hx7
  isplitl [Ho0]; · iapply (hl 0 0 _ _ _); iexact Ho0
  isplitl [Ho1]; · iapply (hl 1 1 _ _ _); iexact Ho1
  isplitl [Ho2]; · iapply (hl 2 2 _ _ _); iexact Ho2
  isplitl [Ho3]; · iapply (hl 3 3 _ _ _); iexact Ho3
  isplitl [Ho4]; · iapply (hl 4 0 _ _ _); iexact Ho4
  isplitl [Ho5]; · iapply (hl 5 1 _ _ _); iexact Ho5
  isplitl [Ho6]; · iapply (hl 6 2 _ _ _); iexact Ho6
  isplitl [Ho7]; · iapply (hl 7 3 _ _ _); iexact Ho7
  isplitl [Ho8]; · iapply (hl 8 0 _ _ _); iexact Ho8
  isplitl [Ho9]; · iapply (hl 9 1 _ _ _); iexact Ho9
  isplitl [Ho10]; · iapply (hl 10 2 _ _ _); iexact Ho10
  isplitl [Ho11]; · iapply (hl 11 3 _ _ _); iexact Ho11
  isplitl [Hs0]; · iexists _; iexact Hs0
  isplitl [Hs1]; · iexists _; iexact Hs1
  isplitl [Hs2]; · iexists _; iexact Hs2
  isplitl [Hs3]; · iexists _; iexact Hs3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  iexists _; iexact HO

end Cert.Proof.Sc

end
-- ==== Proof.Gather.lean ====
/-
  The gather kernel as a SparseCore call: what the call hands each core's sequencer and takes back from it, and the
  sequencer's run in the form the launch theorem asks.
-/
module

public import proofs.«01_k».proof.Proof.Pieces
public import proofs.«01_k».proof.Proof.Body

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable (m : (ℓ : Loc nD τ sig) → Buf (Elt F) ℓ)

/-- Core `c`'s share of the input, at its launch contents; -/
abbrev xPts (d : Dev nD) (c : Fin (grid1.bound 0)) : sProp 𝕄 := xLoc d ↦{coreShare c} m (xLoc d)
/-- its part of the result, at contents `f` of the whole. -/
abbrev oPts (d : Dev nD) (c : Fin (grid1.bound 0)) (f : Buf (Elt F) (oLoc d)) : sProp 𝕄 := oLoc d ↦[coreSet c]{fullShare} f
/-- The gathered frames of the launch memory's input. -/
abbrev slowAt (d : Dev nD) : Buf (Elt F) (oLoc d) := slowOf (α := Elt F .f32) (m (xLoc d))

/-- The call's payloads: each core's sequencer gets its share of the input and its part of the result at whatever it
    holds, and brings them back, the part of the result holding the gathered frames. -/
def P : (K (F := F)).Pay (nD := nD) (Val := Elt F) (Name := ℕ) (U := UU) where
  st := fun q d c => match q, c with | 0, c => iprop(xPts m d c ∗ ∃ f, oPts d c f)
  dn := fun q d c => match q, c with | 0, c => iprop(xPts m d c ∗ oPts d c (slowAt m d))
  go := fun _ _ _ _ => iprop(emp)
  td := fun _ _ _ _ => iprop(emp)
  x := fun _ _ => iprop(emp)

instance P_storable : (P (F := F) m).IsStorable where
  st q d c := match q, c with | 0, c => (inferInstance : BI.Storable (upEmb : UEmb _ 𝕄) iprop(xPts m d c ∗ ∃ f, oPts d c f))
  dn q d c := match q, c with | 0, c => (inferInstance : BI.Storable (upEmb : UEmb _ 𝕄) iprop(xPts m d c ∗ oPts d c (slowAt m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

variable [FloatOps F]

/-- The kernel on core `c`'s sequencer: its arrays, scratch and semaphores opened into the pieces the run takes, and
    packed again after it. -/
theorem core_run (d : Dev nD) (c : Fin (grid1.bound 0)) (O : CellTallies nD τ sig (HIx 1)) (W : Waits sig (HIx 1)) (hO : ∀ g, O g none = 0) :
    iprop(levAts (K (F := F)).L (K (F := F)).lev ∗ emp ∗ (xPts m d c ∗ ∃ f, oPts d c f)
        ∗ scopedBufs (SS d c) ∗ scopedSems0 (SS d c) ∗ owes (SS d c) O W)
      ⊢ wp frame (wpE (defs₀ (F := F)) 𝒱₀ (SS d c) none) Set.univ
          (cc1_gather (coordsS c) (Memref.whole main_arg0_scs) (Memref.isWhole_whole _) (Memref.whole main_v1_scs) (Memref.isWhole_whole _)
            (Memref.whole cc1_scratch0) (Memref.isWhole_whole _) cc1_scratch1 cc1_scratch2 cc1_scratch3 cc1_scratch4
            cc1_scratch5 cc1_scratch6 cc1_scratch7 cc1_scratch8)
          fun _ => iprop((xPts m d c ∗ oPts d c (slowAt m d)) ∗ scopedBufs (SS d c) ∗ scopedSems0 (SS d c)
            ∗ ∃ W', ⌜∀ p ∈ W', p ∈ W ∨ p.2 = none ∨ p.2 = some (0 : Fin 1)⌝ ∗ owes (SS d c) O W') := by
  rw [(K (F := F)).scopedBufs_S facts d _, SparseCore.Cfg.scopedSems0_S (Val := Elt F) d _, ownSems0_S, ownBufs_S]
  iintro ⟨#Hlv, -, ⟨Hx, %fo, Ho⟩, ⟨⟨⟨%fs, Hsh⟩, Hbufs⟩, Htiles⟩, ⟨⟨⟨Hc4, Hc5, Hc6, Hc7, Hc8, Hc9, Hc10, Hc11⟩, Hsems⟩, HtileSems⟩, HO⟩
  ihave Hmw := ((K (F := F)).mayWaits_none (thr := SS d c) hO) $$ Hlv
  ihave Hx' := (Entails.of_eq (input_toks d c (m (xLoc d)))) $$ Hx
  icases Hx' with ⟨Hx4, Hx5, Hx6, Hx7, Hxr⟩
  ihave Ho' := (Entails.of_eq (core_frames d c fo)) $$ Ho
  icases Ho' with ⟨Ho0, Ho1, Ho2, Ho3, Ho4, Ho5, Ho6, Ho7, Ho8, Ho9, Ho10, Ho11⟩
  ihave Hsh' := (Entails.of_eq (slots_split d c fs)) $$ Hsh
  icases Hsh' with ⟨Hs0, Hs1, Hs2, Hs3⟩
  iapply (wp_wand_r Idealize.ShloMosaic.frame (wpE (defs₀ (F := F)) 𝒱₀ (SS d c) none) Set.univ)
  isplitr [Hxr Hbufs Htiles Hsems HtileSems]
  · iapply (gather_run d c (coreShare c) O W (m (xLoc d)) fo fs fs fs fs)
    isplitr; · iexact Hmw
    iframe Hx4 Hx5 Hx6 Hx7 Ho0 Ho1 Ho2 Ho3 Ho4 Ho5 Ho6 Ho7 Ho8 Ho9 Ho10 Ho11 Hs0 Hs1 Hs2 Hs3 Hc4 Hc5 Hc6 Hc7 Hc8 Hc9 Hc10 Hc11 HO
  iintro %_ ⟨Hx4, Hx5, Hx6, Hx7, Ho0, Ho1, Ho2, Ho3, Ho4, Ho5, Ho6, Ho7, Ho8, Ho9, Ho10, Ho11, Hs0, Hs1, Hs2, Hs3, Hc4, Hc5, Hc6, Hc7, Hc8, Hc9, Hc10, Hc11, %W', HO⟩
  isplitl [Hx4 Hx5 Hx6 Hx7 Hxr Ho0 Ho1 Ho2 Ho3 Ho4 Ho5 Ho6 Ho7 Ho8 Ho9 Ho10 Ho11]
  · isplitl [Hx4 Hx5 Hx6 Hx7 Hxr]
    · iapply (Entails.of_eq (input_toks d c (m (xLoc d))).symm)
      iframe Hx4 Hx5 Hx6 Hx7 Hxr
    iapply (Entails.of_eq (core_frames d c (slowAt m d)).symm)
    iframe Ho0 Ho1 Ho2 Ho3 Ho4 Ho5 Ho6 Ho7 Ho8 Ho9 Ho10 Ho11
  isplitl [Hs0 Hs1 Hs2 Hs3 Hbufs Htiles]
  · isplitr [Htiles]
    · isplitr [Hbufs]
      · iapply (slots_join d c)
        isplitl [Hs0]; · iexact Hs0
        isplitl [Hs1]; · iexact Hs1
        isplitl [Hs2]; · iexact Hs2
        iexact Hs3
      iexact Hbufs
    iexact Htiles
  isplitr [HO]
  · isplitr [HtileSems]
    · isplitr [Hsems]
      · iframe Hc4 Hc5 Hc6 Hc7 Hc8 Hc9 Hc10 Hc11
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 1 ()
      = SparseCore.onCore hcore1 (fun c => cc1_gather (coordsS c) (Memref.whole main_arg0_scs) (Memref.isWhole_whole _) (Memref.whole main_v1_scs) (Memref.isWhole_whole _)
            (Memref.whole cc1_scratch0) (Memref.isWhole_whole _) cc1_scratch1 cc1_scratch2 cc1_scratch3 cc1_scratch4
            cc1_scratch5 cc1_scratch6 cc1_scratch7 cc1_scratch8) ⟨⟩ c := rfl

/-- What the launch theorem asks of the call: every core's sequencer runs `core_run`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact core_run m d c O W hO

end Cert.Proof.Sc

end
-- ==== Proof.Copy.lean ====
/-
  The TensorCore's part: the pipelined copy of the frames, block by block, into the second result.
-/
module

public import proofs.«01_k».proof.Proof.Frames
public import Idealize.ShloMosaic.Lib.Pipeline.RegionsLoop
public import Idealize.ShloMosaic.Lib.Pipeline.Covers

@[expose] public section

noncomputable section

namespace Cert.Proof.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The contents type of memref `M`'s buffer on the TensorCore of device `d`, and that buffer held whole. -/
abbrev Bf (d : Dev nD) {sp : Space} {S : Shape} {e : EltTy} (M : Memref sig .tc sp S e) : Type := Buf (Elt F) (M.view.loc (d : Thread nD τ))
abbrev pt (d : Dev nD) {sp : Space} {S : Shape} {e : EltTy} (M : Memref sig .tc sp S e) (f : Bf (F := F) d M) : sProp 𝕄 :=
  M.view.loc (d : Thread nD τ) ↦{fullShare} f

/-- The body copies its input block to its output block. -/
theorem copy_body (d : Dev nD) (i : grid0.Coords) (M0 : Memref sig .tc .vmem S1x16x384x384 .f32) (h0 : M0.IsWhole)
    (M1 : Memref sig .tc .vmem S1x16x384x384 .f32) (h1 : M1.IsWhole) (f0 : Bf (F := F) d M0) (f1 : Bf (F := F) d M1) (E : Set ℕ) (Q : PUnit → sProp 𝕄) :
    iprop(pt d M0 f0 ∗ pt d M1 f1 ∗ (iprop(pt d M0 f0 ∗ ∃ g : Bf (F := F) d M1, ⌜M1.view.read (Elt F) g = M0.view.read (Elt F) f0⌝ ∗ pt d M1 g) -∗ Q ⟨⟩))
      ⊢ wp frame (wpE (defs₀ (F := F)) Variants.none (d : Thread nD τ) none) E (cc0_body i M0 h0 M1 h1) Q := by
  iintro ⟨H0, H1, Hk⟩
  sl_exec!
  sl_step
  iapply Hk
  isplitl [H0]; · iexact H0
  iexists _
  isplitr; swap
  · iexact H1
  ipureintro
  unfold copy_body.sl.H1_1
  funext y
  have e : (Rect.unit (s := S1x16x384x384) ![0, 0, 0, 0] S1x16x384x384.size inb_S1x16x384x384_S1x16x384x384_0_0_0_0).emb y = y := by
    funext a
    refine Fin.ext ?_
    show (![0, 0, 0, 0] : Fin 4 → Nat) a + 1 * (y a).val = (y a).val
    fin_cases a <;> exact (Nat.zero_add _).trans (Nat.one_mul _)
  have h := View.read_writes_cons_emb M1.view M1.view.junk
    (Rect.unit (s := S1x16x384x384) ![0, 0, 0, 0] S1x16x384x384.size inb_S1x16x384x384_S1x16x384x384_0_0_0_0)
    (View.readAt (Elt F) M0.view (Rect.unit (s := S1x16x384x384) ![0, 0, 0, 0] S1x16x384x384.size inb_S1x16x384x384_S1x16x384x384_0_0_0_0).toLoadRect f0) [] y
  rw [e] at h
  exact h.trans (congrArg (M0.view.read (Elt F) f0) e)

/-- The same of the blocks as the pipeline holds them: the output block ends as the input block. -/
theorem copy_owns (d : Dev nD) (i : grid0.Coords) (M0 : Memref sig .tc .vmem S1x16x384x384 .f32) (h0 : M0.IsWhole)
    (M1 : Memref sig .tc .vmem S1x16x384x384 .f32) (h1 : M1.IsWhole) (X Y : S1x16x384x384.Idx → Elt F .f32) (E : Set ℕ) (Q : PUnit → sProp 𝕄) :
    iprop(owns (d : Thread nD τ) M0 fullShare X ∗ owns (d : Thread nD τ) M1 fullShare Y
        ∗ (iprop(owns (d : Thread nD τ) M0 fullShare X ∗ owns (d : Thread nD τ) M1 fullShare X) -∗ Q ⟨⟩))
      ⊢ wp frame (wpE (defs₀ (F := F)) Variants.none (d : Thread nD τ) none) E (cc0_body i M0 h0 M1 h1) Q := by
  unfold owns
  rw [h0.set_eq_univ, h1.set_eq_univ]
  iintro ⟨⟨%f0, %e0, H0⟩, ⟨%f1, -, H1⟩, Hk⟩
  iapply (copy_body d i M0 h0 M1 h1 f0 f1 E Q)
  isplitl [H0]; · iexact H0
  isplitl [H1]; · iexact H1
  iintro ⟨H0, %g, %eg, H1⟩
  iapply Hk
  isplitl [H0]
  · iexists f0; isplitr; · ipureintro; exact e0
    iexact H0
  iexists g; isplitr; · ipureintro; exact eg.trans e0
  iexact H1

variable (V : (d : Dev nD) → (b : Ref sig .tc) → Buf (Elt F) ((d : Thread nD τ).loc b))

/-- The block of the frames staged at point `t`. -/
abbrev stg (d : Dev nD) (t : Fin cfg0.N) : S1x16x384x384.Idx → Elt F .f32 := ((cfg0.win 0).blk t).view.read (Elt F) (V d main_arg0)

/-- The copy's proof data from arrays at `V`: after the body, the output's staging buffer holds the input's block;
    nothing is held between points; the TensorCore owes throughout what it owes at the launch (the signals of the
    SparseCore call to come), and what it has recorded so far is at the lowest level. -/
def dat (d : Dev nD) : Dat τ (Elt F) (HIx 1) ℕ UU ℕ cfg0 d where
  A w := V d (Pipeline.arrRef spec0 w)
  after w t := match w with
    | ⟨0, _⟩ => stg V d t
    | ⟨1, _⟩ => stg V d t
  Φ _ := BI.emp
  q _ := fullShare
  owed _ := (K (F := F)).Otc d 0
  recorded _ := {p | (K (F := F)).lev (T d, p.1) p.2 ≤ 0}

/-- The proof data of the program's one pipeline. -/
abbrev pdats (adm : (p : Fin 1) → (pcfgs (F := F) p).Adm) :
    (p : Fin 1) → (d : Dev nD) → Dat τ (Elt F) (HIx 1) ℕ UU ℕ (Pipeline.pin (pcfgs (F := F)) adm p) d := fun _ d => dat V d

/-- The input's staging buffer holds the block of the point when the body runs. -/
theorem before_in (d : Dev nD) (t : Fin cfg0.N) (x : (cfg0.win 0).block.Idx → Elt F (cfg0.win 0).elt) : (dat V d).before 0 t x = stg V d t := by
  unfold Dat.before; rw [if_pos (fetch0_0 t)]; rfl

/-- The library's body obligation. -/
theorem body_obligation (d : Dev nD) : BodyObligation (dat V d) (defs₀ (F := F)) 𝒱₀ (none : HIx 1) Set.univ := fun t => by
  rw [bigSep_W0, bigSep_W0]
  rw [show (dat V d).owesAt none t.succ = (dat V d).owesAt none t.castSucc from rfl]
  rw [show (dat V d).Φ t.castSucc = BI.emp from rfl, show (dat V d).Φ t.succ = BI.emp from rfl]
  iintro ⟨HΦ, Howes, ⟨%d0, H0⟩, ⟨%d1, H1⟩⟩
  rw [before_in]
  iapply (copy_owns d (grid0.coords t) (win0_0.stage (cfg0.slots t 0)) (hstage0_0 ((cfg0.slots t 0).cast nbuf0_0)) (win0_1.stage (cfg0.slots t 1))
    (hstage0_1 ((cfg0.slots t 1).cast nbuf0_1)) (stg V d t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-- Every element of the result lies in some block. -/
theorem covers : win0_1.Covers := by decide +kernel

/-- The result after the copy is the frames. -/
theorem copied (d : Dev nD) : (dat V d).arrAt 1 cfg0.N = V d main_arg0 :=
  (dat V d).arrAt_eq_of_cover 1 (V d main_arg0) (fun _ _ => rfl) fun i => Pipeline.Window.Covers.cover win0_1 covers (Memref.isWhole_whole _) i

/-- The arrays after the copy: the second result at the frames, the others as they were. -/
def copyOf (d : Dev nD) (b : Ref sig .tc) : Buf (Elt F) ((d : Thread nD τ).loc b) :=
  Function.update (V d) main_v0 (V d main_arg0) b

theorem copyOf_out (d : Dev nD) : copyOf V d main_v0 = V d main_arg0 := Function.update_self _ _ _
theorem copyOf_ne (d : Dev nD) (b : Ref sig .tc) (h : b ≠ main_v0) : copyOf V d b = V d b := Function.update_of_ne h _ _

/-- What the TensorCore owes before the SparseCore call, and has recorded. -/
abbrev debt (d : Dev nD) : sProp 𝕄 :=
  iprop(∃ W, ⌜(K (F := F)).WBelow (T d) W 0⌝ ∗ owes (T d) ((K (F := F)).Otc d 0) W)

/-- It owes nothing at the index of the kernels' own waits. -/
theorem Otc_none (d : Dev nD) (g : GSem nD τ sig) : (K (F := F)).Otc (N := 1) d 0 g none = 0 := by
  by_contra h
  have := SparseCore.Cfg.lev_of_Otc_pos (K := K (F := F)) (Nat.pos_of_ne_zero h)
  rw [SparseCore.Cfg.lev_none] at this
  omega

variable (adm : (p : Fin 1) → (pcfgs (F := F) p).Adm)

set_option backward.isDefEq.respectTransparency.types false in
/-- The copy as a region of @main: entered from the arrays at `V`, left with the second result at the frames; what the
    TensorCore owes passes through. -/
def reg : Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V d).loose
  hwaits d := Pipeline.cellsWaits_intro _ _ _ 0 d fun w s t => (K (F := F)).mayWait_none _ (Otc_none d)
  pre d := iprop(unscopedBufs d (V d) ∗ debt d)
  post d := iprop(unscopedBufs d (copyOf V d) ∗ debt d)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (pdats V adm) launch0.win launch0.arr_whole d
      ((pdats V adm 0 d).share_full fun _ => rfl) (V d) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin d := by
    rw [show (pdats V adm 0 d).Φ 0 = BI.emp from rfl]
    iintro ⟨-, -, -⟩; iempintro
  hout d := by
    rw [Pipeline.ownSems0_none, scopedRest0_eq]
    iintro -
    isplitr; · iempintro
    isplitr; · iempintro
    iempintro
  hexit d := by
    have hjoin := Pipeline.unscopedBufs_of_arrays (p := 0) (pcfgs (F := F)) adm (Ix := HIx 1) (Name := ℕ) (U := UU) (Lvl := ℕ) launch0.win launch0.arr_whole d
      (pdats V adm) ((pdats V adm 0 d).share_full fun _ => rfl) (V d) (copyOf V d) ((pdats V adm 0 d).arrAt · cfg0.N)
      (fun w => by
        fin_cases w
        · exact ((pdats V adm 0 d).arrAt_in 0 rfl _).trans (copyOf_ne V d main_arg0 (by decide)).symm
        · exact (copied V d).trans (copyOf_out V d).symm)
      (fun b hb => copyOf_ne V d b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.le_refl 0
    iexact HO

theorem reg_pre (d : Dev nD) : (reg V adm).pre d = iprop(unscopedBufs d (V d) ∗ debt d) := rfl
theorem reg_post (d : Dev nD) : (reg V adm).post d = iprop(unscopedBufs d (copyOf V d) ∗ debt d) := rfl

end Cert.Proof.Sc

end
-- ==== Proof.Launch.lean ====
/-
  The program's run: the launch's set-up, @main on the TensorCore (the pipelined copy, then the SparseCore call), and
  what the memory holds at the end.
-/
module

public import proofs.«01_k».proof.Proof.Gather
public import proofs.«01_k».proof.Proof.Copy

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline prefetches no table. -/
abbrev adm : (p : Fin 1) → (pcfgs (F := F) p).Adm := fun p => (cfgs p).toPCfg_adm

instance EP_landsIn : (EP (F := F)).LandsIn (upEmb : UEmb _ 𝕄) := by
  unfold EP; infer_instance

/-- What the launch deals the copy on device `d`: its staging cells' rounds and its transfers' tokens. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes' cells, the pipeline's cells, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem no_payload {I : Type} (s : Finset I) : (bigSep s fun _ => iprop(emp)) = (iprop(emp) : sProp 𝕄) := bigSep_emp_const s

/-- The launch element deals the handshakes their rounds, and each device's copy its own. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  have hg : (bigSep Finset.univ fun d : Dev nD => bigSep Finset.univ fun p : Fin 1 => (Pipeline.cellsGhost (Pipeline.pin (pcfgs (F := F)) adm) EP p d : sProp 𝕄))
      = bigSep Finset.univ fun d : Dev nD => Pipeline.cellsGhost (Pipeline.pin (pcfgs (F := F)) adm) EP 0 d :=
    bigSep_congr fun _ _ => bigSep_univ_of_subsingleton (0 : Fin 1)
  have ht : (bigSep Finset.univ fun d : Dev nD => bigSep Finset.univ fun p : Fin 1 => (Pipeline.toksInit (Pipeline.pin (pcfgs (F := F)) adm) EP p d : sProp 𝕄))
      = bigSep Finset.univ fun d : Dev nD => Pipeline.toksInit (Pipeline.pin (pcfgs (F := F)) adm) EP 0 d :=
    bigSep_congr fun _ _ => bigSep_univ_of_subsingleton (0 : Fin 1)
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · ihave Hg := (Entails.of_eq hg) $$ Hg
    ihave Ht := (Entails.of_eq ht) $$ Ht
    iapply (Entails.of_eq (bigSep_sep' Finset.univ (fun d : Dev nD => Pipeline.cellsGhost (Pipeline.pin (pcfgs (F := F)) adm) (EP (F := F)) 0 d)
      (fun d : Dev nD => Pipeline.toksInit (Pipeline.pin (pcfgs (F := F)) adm) (EP (F := F)) 0 d)).symm)
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_payload]
  iempintro

/-! ## @main on the TensorCore -/

/-- The TensorCore's arrays: the frames, the copied result, the gathered result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_v0) ∗ (oLoc d ↦{fullShare} W main_v1)) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays at launch, on device `d`. -/
abbrev V0 (d : Dev nD) (b : Ref sig .tc) : Buf (Elt F) ((d : Thread nD τ).loc b) := m ((SparseCore.T d).loc b)

/-- The copy, run from @main. -/
theorem copy_run [∀ e, Nonempty (Elt F e)] (d : Dev nD) (Q : PUnit → sProp 𝕄) :
    iprop(levAts (K (F := F)).L (K (F := F)).lev ∗ boundary (SparseCore.T d) ∗ (unscopedBufs d (V0 m d) ∗ debt d) ∗ ghost d
        ∗ (iprop(boundary (SparseCore.T d) ∗ unscopedBufs d (copyOf (V0 m) d) ∗ debt d) -∗ Q ⟨⟩))
      ⊢ wp frame (wpE ((K (F := F)).defs (D (F := F))) 𝒱 (SparseCore.T d) none) Set.univ (Prog.lift (.customCall (SparseCore.inner (Pipeline.entry 0)) ())) Q := by
  have hl := (K (F := F)).wp_liftProg (D (F := F)) 𝒱 (SparseCore.T d) Set.univ none (.op (.customCall (Pipeline.entry (0 : Fin 1)) ()) .ret) Q
  rw [SparseCore.liftProg_op] at hl
  have h := (Pipeline.RegionSeg.wp (pcfgs (F := F)) adm (pdats (V0 m) adm) none cellOf_inj EP defs₀ 𝒱₀ (K (F := F)).L (K (F := F)).lev
    (reg (V0 m) adm) d none (fun _ h => nomatch h) .ret Q)
  rw [reg_pre, reg_post] at h
  iintro ⟨Hl, Hb, Hpre, ⟨Hg, Ht⟩, Hk⟩
  iapply hl
  iapply h
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hl]; · iexact Hl
  isplitl [Hg]; · iexact Hg
  iexact Ht

/-- What @main leaves: the frames at their launch contents, the copied result at them, the gathered result. -/
abbrev FIN (d : Dev nD) : sProp 𝕄 :=
  iprop((xLoc d ↦{fullShare} m (xLoc d)) ∗ (yLoc d ↦{fullShare} (m (xLoc d) : Buf (Elt F) (yLoc d))) ∗ (oLoc d ↦{fullShare} slowAt m d))

/-- What the SparseCore call takes for its two cores, and what it hands back. -/
theorem st_eq (d : Dev nD) : (bigSep Finset.univ fun c : Fin ((K (F := F)).nCore 0) => (P m).st 0 d c)
    = bigSep Finset.univ fun c : Fin (grid1.bound 0) => iprop(xPts m d c ∗ ∃ f, oPts d c f) := rfl
theorem dn_eq (d : Dev nD) : (bigSep Finset.univ fun c : Fin ((K (F := F)).nCore 0) => (P m).dn 0 d c)
    = bigSep Finset.univ fun c : Fin (grid1.bound 0) => iprop(xPts m d c ∗ oPts d c (slowAt m d)) := rfl

/-- The TensorCore's state before the call is what it owes, and the rest of its part in the handshakes. -/
theorem tcSt_debt (d : Dev nD) : ∃ R : sProp 𝕄, (K (F := F)).tcSt EH d 0 = iprop(debt d ∗ R) := ⟨_, rfl⟩

/-- @main on device `d`'s TensorCore: the copy, then the SparseCore call, the frames dealt to the two cores in shares and
    the result in parts. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, Hgh⟩
  ihave Hlv := ((K (F := F)).ctx_levAts κ) $$ Hctx
  obtain ⟨R, hR⟩ := tcSt_debt (F := F) d
  ihave Hst' := (Entails.of_eq hR) $$ Hst
  icases Hst' with ⟨Hd, HR⟩
  -- the copy
  iapply (copy_run m d)
  isplitl [Hlv]; · iexact Hlv
  isplitl [Hb]; · iexact Hb
  isplitl [Hbufs Hd]
  · isplitl [Hbufs]; · iexact Hbufs
    iexact Hd
  isplitl [Hgh]; · iexact Hgh
  iintro ⟨Hb, Hbufs, Hd⟩
  ihave Hbufs' := (Entails.of_eq (unscopedBufs_eq d _)) $$ Hbufs
  icases Hbufs' with ⟨Hx, Hy, Ho⟩
  rw [copyOf_out, copyOf_ne (V0 m) d main_arg0 (by decide), copyOf_ne (V0 m) d main_v1 (by decide)]
  ihave Hx' := (Entails.of_eq (input_cores d (m (xLoc d)))) $$ Hx
  icases Hx' with ⟨Hxr, Hxs⟩
  ihave Hos := (Entails.of_eq (result_cores d (m (oLoc d)))) $$ Ho
  -- the call
  iapply ((K (F := F)).wp_run (D (F := F)) 𝒱 (EH := EH) (P := P m) κ d 0) $$ [Hd HR Hxs Hos Hy Hxr Hb Hts]
  isplitr; · iexact Hctx
  isplitl [Hd HR]
  · iapply (Entails.of_eq hR.symm)
    isplitl [Hd]; · iexact Hd
    iexact HR
  isplitl [Hxs Hos]
  · iapply (Entails.of_eq (st_eq m d).symm)
    iapply (Entails.of_eq (bigSep_sep' Finset.univ (fun c => xPts m d c) (fun c => iprop(∃ f, oPts d c f))).symm)
    isplitl [Hxs]; · iexact Hxs
    have hos : (bigSep Finset.univ fun c => oPts d c (m (oLoc d))) ⊢ (bigSep Finset.univ fun c => iprop(∃ f, oPts d c f) : sProp 𝕄) :=
      bigSep_mono fun c _ => (show oPts d c (m (oLoc d)) ⊢ iprop(∃ f, oPts d c f) from by iintro H; iexists _; iexact H)
    iapply hos
    iexact Hos
  iintro ⟨Hst, Hdn⟩
  ihave Hdn' := (Entails.of_eq ((dn_eq m d).trans (bigSep_sep' Finset.univ (fun c => xPts m d c) (fun c => oPts d c (slowAt m d))))) $$ Hdn
  icases Hdn' with ⟨Hxs, Hos⟩
  imodintro
  isplitl [Hst]; · iexact Hst
  isplitr [Hb Hts]
  · isplitl [Hxr Hxs]
    · iapply (Entails.of_eq (input_cores d (m (xLoc d))).symm)
      isplitl [Hxr]; · iexact Hxr
      iexact Hxs
    isplitl [Hy]; · iexact Hy
    iapply (Entails.of_eq (result_cores d (slowAt m d)).symm)
    iexact Hos
  isplitl [Hb]; · iexact Hb
  iexact Hts

/-! ## The final memory -/

/-- What the final memory holds on device `d`. -/
def fq (d : Dev nD) (s' : Phys nD τ sig (Elt F)) : Prop :=
  s'.mem.mem (xLoc d) = m (xLoc d) ∧ s'.mem.mem (yLoc d) = m (xLoc d) ∧ s'.mem.mem (oLoc d) = slowAt m d

/-- The arrays as @main leaves them are what the memory holds. -/
theorem hfin (d : Dev nD) (s' : Phys nD τ sig (Elt F)) : iprop(FIN m d ∗ SI s') ⊢ (⌜fq m d s'⌝ : sProp 𝕄) := by
  iintro ⟨⟨Hx, Hy, Ho⟩, HSI⟩
  icombine HSI Hx gives %hx
  icombine HSI Hy gives %hy
  icombine HSI Ho gives %ho
  ipureintro
  exact ⟨funext fun i => hx i (Finset.mem_univ i), funext fun i => hy i (Finset.mem_univ i), funext fun i => ho i (Finset.mem_univ i)⟩

/-- The run's postcondition: the frames unchanged, the second result equal to them, the first the gathered frames, every
    semaphore at zero. -/
def QC : PUnit × MemSt nD τ sig (Elt F) → Prop := fun r =>
  (∀ d : Dev nD, r.2.mem (xLoc d) = m (xLoc d) ∧ r.2.mem (yLoc d) = m (xLoc d) ∧ r.2.mem (oLoc d) = slowAt m d) ∧ r.2.sem = fun _ => 0

/-- Every run of the program from any memory ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun d => ghost d) (FIN m) (u₀ (F := F)) (sep_elim_left.trans (hu₀ m)) (hmain m ρ) (fq m) (hfin m) (QC m) (fun _ h hz => ⟨h, hz⟩)

end Cert.Proof.Sc

end
-- ==== Proof.Twin.lean ====
/-
  The kernel as printed over the bits and as printed over the extended reals have one text, so that the run proved of the
  one, over any float values, is the run of the other.
-/
module

public import proofs.«01_k».proof.Kernel
public import proofs.«01_k».proof.Proof.Gen.Kernel
public import proofs.«01_k».proof.Proof.Launch

@[expose] public section

noncomputable section

namespace Cert.Proof

open Idealize.ShloMosaic Idealize.SL.Sem

variable {F : FTy → Type} [FloatOps F]

/-- The two programs' tables of kernel bodies agree, entry by entry, -/
theorem bodies_eq : Cert.Kernel.defs₀ (F := F) = Cert.KernelIdeal.defs₀ (F := F) := by
  funext p ℓ a
  match p, ℓ, a with
  | .tc, 0, (t, s) => rfl
  | .tc, 1, _ => rfl
  | .scScalar c, 0, _ => rfl
  | .scScalar c, 1, _ => rfl
  | .scVector c i, 0, _ => rfl
  | .scVector c i, 1, _ => rfl

/-- and so do the tables with the launches added. -/
theorem defs_eq : Cert.Kernel.defs (F := F) = Cert.KernelIdeal.defs (F := F) :=
  congrArg (fun b => Cert.KernelIdeal.sc.defs (Pipeline.defs Cert.KernelIdeal.pcfgs b)) bodies_eq

/-- The run of the kernel, of the program printed over the bits. -/
theorem run_kernel [∀ e, Nonempty (Elt F e)] (m : (ℓ : Loc Cert.Kernel.nD Cert.Kernel.τ Cert.Kernel.sig) → Buf (Elt F) ℓ)
    (ρ : Dev Cert.Kernel.nD → PrngReg) :
    θ_run (Cert.Kernel.defs (F := F)) (Cert.Kernel.threads (F := F)) ⟨m, fun _ => 0, ρ⟩ (Sc.QC (F := F) m) :=
  (congrArg (fun D => θ_run D (Cert.Kernel.threads (F := F)) ⟨m, fun _ => 0, ρ⟩ (Sc.QC (F := F) m)) defs_eq).mpr
    (Sc.run_main m ρ)

end Cert.Proof

end
-- ==== Proof.Taken.lean ====
/-
  What the reference computes: its gather at the frame numbers 0, 4, 8, 13, 17, 22, 26, 31 reads the same frames as the
  kernel does. The numbers are literals of the program, all inside the axis, so that neither the wrapping of negative
  numbers before the gather nor the filling of frames out of range after it changes anything.
-/
module

public import proofs.«01_k».proof.Proof.Frames
public import proofs.«01_k».proof.Proof.Gen.ReferenceIdeal
public import Idealize.ShloMosaic.Lib.ReduceAll
public import Idealize.ShloMosaic.Lib.ValueIdxCore
public import Idealize.ShloMosaic.Lib.Pipeline.Value

@[expose] public section

noncomputable section

namespace Cert.Proof.Taken

open Cert.ReferenceIdeal Cert.ReferenceIdeal.Gen
open Idealize.ShloMosaic Idealize.ShloMosaic.ValueIdx
open Cert.Proof.Sc (frameOf slowOf)

/-- The literal frame numbers, as a vector. -/
abbrev nums : IVec S8 32 := fun i => lit0 (S8.rowMajor i)

/-- The frame numbers after a negative one is counted from the end. -/
abbrev wrapped : IVec S8 32 :=
  select (cmpi .slt nums (broadcastInDim S8 ![] bcast_S_S8 (constantI S_ 32 0#32)))
    (addi nums (broadcastInDim S8 ![] bcast_S_S8 (constantI S_ 32 32#32))) nums

/-- The same as a column, which is how the gather takes them. -/
abbrev starts : IVec S8x1 32 := broadcastInDim S8x1 ![0] bcast_S8_S8x1_0 wrapped

/-- Which of them lie on the axis. -/
abbrev onAxis : IVec S8x1 1 :=
  andi (cmpi .sge starts (broadcastInDim S8x1 ![] bcast_S_S8x1 (constantI S_ 32 0#32)))
    (cmpi .sle starts (broadcastInDim S8x1 ![0, 1] bcast_S1x1_S8x1_0_1 (broadcastInDim S1x1 ![1] bcast_S1_S1x1_1 (constantI S1 32 31#32))))

/-- Frame number `j` is, clamped to the axis, the frame that the kernel copies to place `j`. -/
theorem starts_eq : ∀ j : Fin 8, min (starts (ix2 (n0 := 8) (n1 := 1) j 0)).toInt.toNat 31 = (frameOf j).val := by
  decide +kernel

/-- Every frame number lies on the axis. -/
theorem onAxis_eq (i : S8x1.Idx) : onAxis i = 1#1 := by
  have h : ∀ j : Fin 8, onAxis (ix2 (n0 := 8) (n1 := 1) j 0) = 1#1 := by decide +kernel
  have e : i = ix2 (n0 := 8) (n1 := 1) (i 0) 0 := by
    funext a
    match a with
    | ⟨0, _⟩ => rfl
    | ⟨1, _⟩ => exact Subsingleton.elim (α := Fin 1) _ _
  rw [e]
  exact h (i 0)

/-- The gather read at an index: the operand's frame at that place's frame number, clamped to the axis. -/
theorem gather_at {α : Type} (x : S3x32x384x384.Idx → α) (i : S3x8x384x384.Idx) :
    Host.gather gather_S3x32x384x384_S8x1_S3x8x384x384_023_1_n_n_1_1_31384384 x starts i = slowOf x i := by
  unfold Host.gather slowOf
  congr 1
  funext a
  refine Fin.ext ?_
  show GatherDims.start _ i starts a + GatherDims.batchCoord _ i a + GatherDims.offCoord _ i a = _
  rw [GatherDims.batchCoord_eq_zero _ _ _ List.not_mem_nil, Nat.add_zero]
  match a with
  | ⟨0, _⟩ => exact Nat.zero_add _
  | ⟨2, _⟩ => exact Nat.zero_add _
  | ⟨3, _⟩ => exact Nat.zero_add _
  | ⟨1, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine Eq.trans ?_ (starts_eq (i 1))
    refine congrArg (fun k => min (starts k).toInt.toNat 31) (funext fun b => Fin.ext ?_)
    match b with
    | ⟨0, _⟩ => rfl
    | ⟨1, _⟩ => rfl

/-- The reference's first result, as its run leaves it, is the gathered frames. -/
theorem taken {F : FTy → Type} [FloatOps F] (x : S3x32x384x384.Idx → F .f32) :
    select (broadcastInDim S3x8x384x384 ![1] bcast_S8_S3x8x384x384_1
        (Host.reduce IntOp.andi onAxis (constantI S_ 1 1#1) reducesTo_S8x1_S8_d1 h_S_))
      (Host.gather gather_S3x32x384x384_S8x1_S3x8x384x384_023_1_n_n_1_1_31384384 x starts)
      (broadcastInDim S3x8x384x384 ![] bcast_S_S3x8x384x384 (constant S_ .f32 0x7FC00000#32)) = slowOf x := by
  funext i
  rw [select_apply]
  have h : broadcastInDim S3x8x384x384 ![1] bcast_S8_S3x8x384x384_1
      (Host.reduce IntOp.andi onAxis (constantI S_ 1 1#1) reducesTo_S8x1_S8_d1 h_S_) i = 1#1 :=
    Host.reduce_andi_one _ _ _ _ _ rfl onAxis_eq
  rw [h, select_one]
  exact gather_at x i

end Cert.Proof.Taken

end
-- ==== Proof.lean ====
/-
  The claim, assembled: the kernel's run (Proof/Launch.lean and Proof/Twin.lean) gives both frames and the kernel's side of both value
  claims, at each reading of the floats; the reference's generated run, with its first result rewritten as the gathered
  frames (Proof/Taken.lean), gives the other side. No operation is rewritten between the two readings of the kernel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Twin
public import proofs.«01_k».proof.Proof.Taken
public import Idealize.ShloMosaic.Adequacy
public import Idealize.ShloMosaic.Init

@[expose] public section

noncomputable section

namespace Cert.Proof

open Idealize.ShloMosaic Idealize.SL.Sem

/-- The kernel, over the bits: it runs, keeps its argument and ends with every counter at zero. -/
theorem frame_kernel : Cert.quiescent_Kernel := fun m ρ _ =>
  (θ_run Cert.Kernel.defs _ _).mono (fun _ h => ⟨fun c => (h.1 c).1, h.2⟩) (run_kernel (F := Bits) m ρ)

/-- The same over the extended reals. -/
theorem frame_ideal : Cert.quiescent_KernelIdeal := fun m ρ _ =>
  (θ_run Cert.KernelIdeal.defs _ _).mono (fun _ h => ⟨fun c => (h.1 c).1, h.2⟩) (Sc.run_main (F := Ideal) m ρ)

/-- The reference declares no semaphore, and its run keeps its argument. -/
theorem frame_reference_ideal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same over the bits. -/
theorem frame_reference : Cert.quiescent_Reference := fun m ρ _ =>
  (θ_run Cert.Reference.defs _ _).mono (fun r h => ⟨fun c => (h c).2.2, sem_eq_zero_of_no_sems (by decide) r.2⟩)
    (Cert.Reference.Value.run (F := Bits) m ρ)

/-- Over the extended reals, kernel and reference both end with the gathered frames and a copy of the argument. -/
theorem algebraic : Cert.algebraic_KernelIdeal_ReferenceIdeal := fun m ρ m' ρ' _ hm =>
  ⟨fun c => Sc.slowAt m c, fun c => m (Sc.xLoc c),
    (θ_run Cert.KernelIdeal.defs _ _).mono (fun _ h c => ⟨(h.1 c).2.2, (h.1 c).2.1, (h.1 c).1⟩) (Sc.run_main (F := Ideal) m ρ),
    (θ_run Cert.ReferenceIdeal.defs _ _).mono
      (fun _ h c => ⟨(h c).1.trans ((Taken.taken _).trans (congrArg Sc.slowOf (hm c))), (h c).2.1.trans (hm c), (h c).2.2⟩)
      (Cert.ReferenceIdeal.Value.run (F := Ideal) m' ρ')⟩

/-- The same over the bits. -/
theorem bitexact : Cert.bitexact_Kernel_Reference := fun m ρ m' ρ' _ hm =>
  ⟨fun c => Sc.slowAt (F := Bits) m c, fun c => m (Sc.xLoc c),
    (θ_run Cert.Kernel.defs _ _).mono (fun _ h c => ⟨(h.1 c).2.2, (h.1 c).2.1, (h.1 c).1⟩) (run_kernel (F := Bits) m ρ),
    (θ_run Cert.Reference.defs _ _).mono
      (fun _ h c => ⟨(h c).1.trans ((Taken.taken (F := Bits) _).trans (congrArg Sc.slowOf (hm c))), (h c).2.1.trans (hm c), (h c).2.2⟩)
      (Cert.Reference.Value.run (F := Bits) m' ρ')⟩

theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, algebraic, bitexact⟩

end Cert.Proof

end
